-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x14336 : Shape := ⟨3, ![2, 768, 14336]⟩
abbrev S14336x4096 : Shape := ⟨2, ![14336, 4096]⟩
abbrev S4096 : Shape := ⟨1, ![4096]⟩
abbrev S1536x14336 : Shape := ⟨2, ![1536, 14336]⟩
abbrev S1x4096 : Shape := ⟨2, ![1, 4096]⟩
abbrev S1536x4096 : Shape := ⟨2, ![1536, 4096]⟩
abbrev S1536x2048 : Shape := ⟨2, ![1536, 2048]⟩
abbrev S2048x2048 : Shape := ⟨2, ![2048, 2048]⟩
abbrev S1x2048 : Shape := ⟨2, ![1, 2048]⟩
abbrev S2048x512 : Shape := ⟨2, ![2048, 512]⟩
abbrev S1x512 : Shape := ⟨2, ![1, 512]⟩
abbrev S1536x512 : Shape := ⟨2, ![1536, 512]⟩
abbrev S2x768x4096 : Shape := ⟨3, ![2, 768, 4096]⟩

abbrev nBuf : Space → Nat
  | .hbm => 8
  | .vmem => 9
  | .smem => 0
  | _ => 0

abbrev bufTy : (tb : Table) → Fin (tcTables nBuf tb) → BufTy
  | .hbm, ⟨0, _⟩ => ⟨S2x768x14336, .bf16⟩
  | .hbm, ⟨1, _⟩ => ⟨S14336x4096, .i8⟩
  | .hbm, ⟨2, _⟩ => ⟨S4096, .f32⟩
  | .hbm, ⟨3, _⟩ => ⟨S1536x14336, .bf16⟩
  | .hbm, ⟨4, _⟩ => ⟨S4096, .bf16⟩
  | .hbm, ⟨5, _⟩ => ⟨S1x4096, .bf16⟩
  | .hbm, ⟨6, _⟩ => ⟨S1536x4096, .bf16⟩
  | .hbm, ⟨7, _⟩ => ⟨S2x768x4096, .bf16⟩
  | .local _ .vmem, ⟨0, _⟩ => ⟨S1536x2048, .bf16⟩
  | .local _ .vmem, ⟨1, _⟩ => ⟨S1536x2048, .bf16⟩
  | .local _ .vmem, ⟨2, _⟩ => ⟨S2048x2048, .i8⟩
  | .local _ .vmem, ⟨3, _⟩ => ⟨S2048x2048, .i8⟩
  | .local _ .vmem, ⟨4, _⟩ => ⟨S1x2048, .bf16⟩
  | .local _ .vmem, ⟨5, _⟩ => ⟨S1x2048, .bf16⟩
  | .local _ .vmem, ⟨6, _⟩ => ⟨S1536x2048, .bf16⟩
  | .local _ .vmem, ⟨7, _⟩ => ⟨S1536x2048, .bf16⟩
  | .local _ .vmem, ⟨8, _⟩ => ⟨S1536x2048, .f32⟩
  | _, _ => ⟨S2x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c6_i32 : BitVec 32 := 6#32
  let v59 : BitVec 1 := Scalar.cmpi .eq arg1 c6_i32
  let v60 : BitVec 32 := Scalar.extui v59
  let c0_i32_40 : BitVec 32 := 0#32
  let v61 : BitVec 1 := Scalar.cmpi .ne v60 c0_i32_40
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S2x768x14336 : Shape := ⟨3, ![2, 768, 14336]⟩
abbrev S14336x4096 : Shape := ⟨2, ![14336, 4096]⟩
abbrev S4096 : Shape := ⟨1, ![4096]⟩
abbrev S2x768x4096 : Shape := ⟨3, ![2, 768, 4096]⟩
abbrev S1x4096 : Shape := ⟨2, ![1, 4096]⟩

abbrev nBuf : Space → Nat
  | .hbm => 4
  | .vmem => 4
  | .smem => 0
  | _ => 0

abbrev bufTy : (tb : Table) → Fin (tcTables nBuf tb) → BufTy
  | .hbm, ⟨0, _⟩ => ⟨S2x768x14336, .bf16⟩
  | .hbm, ⟨1, _⟩ => ⟨S14336x4096, .i8⟩
  | .hbm, ⟨2, _⟩ => ⟨S4096, .f32⟩
  | .hbm, ⟨3, _⟩ => ⟨S2x768x4096, .bf16⟩
  | .local _ .vmem, ⟨0, _⟩ => ⟨S2x768x14336, .bf16⟩
  | .local _ .vmem, ⟨1, _⟩ => ⟨S14336x4096, .i8⟩
  | .local _ .vmem, ⟨2, _⟩ => ⟨S4096, .f32⟩
  | .local _ .vmem, ⟨3, _⟩ => ⟨S2x768x4096, .bf16⟩
  | _, _ => ⟨S2x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x768x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Formula.lean ====
module

public import Idealize.ShloMosaic.PureOps
public import Idealize.ShloMosaic.Lib.ValueIdx

/-!
The formula both programs compute over the exact numbers: a linear layer whose weights are integer codes times one scale per output column.
-/

@[expose] public section

noncomputable section

namespace Cert.Hand

open Idealize.ShloMosaic Idealize Idealize.ShloMosaic.ValueIdx
open scoped BigOperators

/-- The number an integer code stands for. -/
def code (b : BitVec 8) : EReal := ((b.toInt : ℝ) : EReal)

/-- The linear layer at batch `j 0`, position `j 1`, output column `j 2`: the activations of that position times the scaled codes of that column,
    summed over the 14336 features. -/
def linear (x : Vec Ideal ⟨3, ![2, 768, 14336]⟩ .bf16) (w : Vec Ideal ⟨2, ![14336, 4096]⟩ .i8) (s : Vec Ideal ⟨1, ![4096]⟩ .f32) :
    Vec Ideal ⟨3, ![2, 768, 4096]⟩ .bf16 := fun j =>
  ∑ k : Fin 14336, x (ix3 (j 0) (j 1) k) * (code (w (ix2 k (j 2))) * s (ix1 (j 2)))

end Cert.Hand

end
-- ==== Proof.Reference.lean ====
module

public import proofs.«01_k».proof.Proof.Formula
public import proofs.«01_k».proof.Proof.Gen.ReferenceIdeal.Value
public import Idealize.ShloMosaic.Lib.Pointwise

/-!
What the reference computes: the linear layer, read off its one einsum.
-/

@[expose] public section

noncomputable section

namespace Cert.ReferenceIdeal.Hand

open Idealize.ShloMosaic Idealize Cert.ReferenceIdeal Cert.ReferenceIdeal.Gen Cert.Hand
open scoped BigOperators

/-- THE REFERENCE'S RESULT is the linear layer. -/
theorem result_eq (x : Vec Ideal S2x768x14336 .bf16) (w : Vec Ideal S14336x4096 .i8) (s : Vec Ideal S4096 .f32) :
    Cert.ReferenceIdeal.Value.G3 x w s = linear x w s := by
  funext j
  unfold Cert.ReferenceIdeal.Value.G3 linear
  unfold_payloads
  pointwise
  rfl

end Cert.ReferenceIdeal.Hand

end
-- ==== Proof.Block.lean ====
module

public import proofs.«01_k».proof.Proof.Formula
public import proofs.«01_k».proof.Proof.Gen.KernelIdeal.Frame
public import Idealize.ShloMosaic.Lib.Pipeline.ValueKit
public import Idealize.ShloMosaic.Lib.Pipeline.ReadBack
public import Idealize.ShloMosaic.Lib.Pointwise

/-!
What one grid point of the kernel computes, over the exact numbers (`Ideal`).

A point holds a block of activations `x0` (1536 x 2048), a block of integer codes `x1` (2048 x 2048), a row of scales `x2` (1 x 2048) and an
accumulator (1536 x 2048). It adds the product of `x0` with the scaled codes to the accumulator, in four chunks of 512 columns. Here the four chunks
are shown to be one formula, `stepSum`, on the whole accumulator.
-/

@[expose] public section

noncomputable section

namespace Cert.KernelIdeal.Hand

open Idealize.ShloMosaic Idealize Cert.KernelIdeal.Gen Cert.Hand
open scoped BigOperators

/-- What one grid point adds to the accumulator at row `y 0`, column `y 1`: the activations of that row times the scaled codes of that column,
    summed over the 2048 features of the block. -/
def stepSum (x0 : Vec Ideal S1536x2048 .bf16) (x1 : Vec Ideal S2048x2048 .i8) (x2 : Vec Ideal S1x2048 .bf16) (y : S1536x2048.Idx) : EReal :=
  ∑ k : Fin 2048, x0 (ix2 (y 0) k) * (code (x1 (ix2 k (y 1))) * x2 (ix2 0 (y 1)))

/-- The product a chunk computes, at an index: the chunk's accumulator plus the sum over the features of the block. -/
theorem pay_apply (v3 : Vec Ideal S2048x512 .i8) (v5 : Vec Ideal S1x512 .bf16) (v9 : Vec Ideal S1536x512 .f32) (v10 : Vec Ideal S1536x2048 .bf16)
    (y : S1536x512.Idx) :
    k0_pay5 v3 v5 v9 v10 y = v9 y + ∑ k : Fin 2048, v10 (ix2 (y 0) k) * (code (v3 (ix2 k (y 1))) * v5 (ix2 0 (y 1))) := by
  unfold_payloads
  pointwise
  rfl

/-- The accumulator a zeroing point starts from is zero everywhere. -/
theorem zero_apply (y : S1536x2048.Idx) : (k0_pay4 (F := Ideal)) y = 0 := by
  unfold_payloads
  pointwise

/-- The final cast changes nothing over the exact numbers. -/
theorem cast_eq (v : Vec Ideal S1536x2048 .f32) : k0_pay3 v = v := by
  funext y
  unfold_payloads
  pointwise

/-- The chunk of 512 columns from column `o` on is that chunk of the whole formula, whatever `o` is: used for all four chunks. -/
theorem chunk (o : ℕ) (h1 : ∀ a, (![0, o] : Fin 2 → ℕ) a + (![2048, 512] : Fin 2 → ℕ) a ≤ S2048x2048.size a)
    (h2 : ∀ a, (![0, o] : Fin 2 → ℕ) a + (![1, 512] : Fin 2 → ℕ) a ≤ S1x2048.size a)
    (h3 : ∀ a, (![0, o] : Fin 2 → ℕ) a + (![1536, 512] : Fin 2 → ℕ) a ≤ S1536x2048.size a)
    (x0 : Vec Ideal S1536x2048 .bf16) (x1 : Vec Ideal S2048x2048 .i8) (x2 : Vec Ideal S1x2048 .bf16) (acc : Vec Ideal S1536x2048 .f32)
    (y : (Rect.unit (s := S1536x2048) ![0, o] ![1536, 512] h3).shape.Idx) :
    k0_pay5 (View.ld x1 (Rect.unit ![0, o] ![2048, 512] h1)) (View.ld x2 (Rect.unit ![0, o] ![1, 512] h2))
        (View.ld acc (Rect.unit ![0, o] ![1536, 512] h3)) x0 y
      = acc ((Rect.unit ![0, o] ![1536, 512] h3).emb y) + stepSum x0 x1 x2 ((Rect.unit ![0, o] ![1536, 512] h3).emb y) := by
  rw [pay_apply]
  have e0 : ((Rect.unit (s := S1536x2048) ![0, o] ![1536, 512] h3).emb y 0 : ℕ) = y 0 := by
    show 0 + 1 * (y 0).val = (y 0).val
    omega
  have e1 : ((Rect.unit (s := S1536x2048) ![0, o] ![1536, 512] h3).emb y 1 : ℕ) = o + y 1 := by
    show o + 1 * (y 1).val = o + (y 1).val
    omega
  generalize hz : (Rect.unit (s := S1536x2048) ![0, o] ![1536, 512] h3).emb y = z at e0 e1 ⊢
  have hr : (ix2 (y 0) : Fin 2048 → S1536x2048.Idx) = ix2 (z 0) := congrArg _ (Fin.ext e0.symm)
  have hx : ∀ k : Fin 2048, View.ld x1 (Rect.unit ![0, o] ![2048, 512] h1) (ix2 k (y 1)) = x1 (ix2 k (z 1)) := fun k =>
    View.ld_unit_apply_of x1 _ _ h1 _ _ (fun a => match a with
      | ⟨0, _⟩ => (Nat.zero_add _).symm
      | ⟨1, _⟩ => e1)
  have hs : View.ld x2 (Rect.unit ![0, o] ![1, 512] h2) (ix2 0 (y 1)) = x2 (ix2 0 (z 1)) :=
    View.ld_unit_apply_of x2 _ _ h2 _ _ (fun a => match a with
      | ⟨0, _⟩ => rfl
      | ⟨1, _⟩ => e1)
  have ha : View.ld acc (Rect.unit ![0, o] ![1536, 512] h3) y = acc z := congrArg acc hz
  rw [ha, hs]
  unfold stepSum
  congr 1
  refine Finset.sum_congr rfl fun k _ => ?_
  rw [hx k]
  exact congrArg (fun r => x0 (r k) * _) hr

/-- The four chunks a point stores last, in the order of the stores from the last one, over whatever was stored before them, leave the accumulator
    plus the whole formula. -/
theorem four_chunks (x0 : Vec Ideal S1536x2048 .bf16) (x1 : Vec Ideal S2048x2048 .i8) (x2 : Vec Ideal S1x2048 .bf16) (acc : Vec Ideal S1536x2048 .f32)
    (L : List (View.Piece (Elt Ideal) S1536x2048 .f32)) :
    View.canon (⟨Rect.unit ![0, 1536] ![1536, 512] inb_S1536x2048_S1536x512_0_1536,
          k0_pay2 (View.ld x1 (Rect.unit ![0, 1536] ![2048, 512] inb_S2048x2048_S2048x512_0_1536))
            (View.ld x2 (Rect.unit ![0, 1536] ![1, 512] inb_S1x2048_S1x512_0_1536))
            (View.ld acc (Rect.unit ![0, 1536] ![1536, 512] inb_S1536x2048_S1536x512_0_1536)) x0⟩ ::
        ⟨Rect.unit ![0, 1024] ![1536, 512] inb_S1536x2048_S1536x512_0_1024,
          k0_pay1 (View.ld x1 (Rect.unit ![0, 1024] ![2048, 512] inb_S2048x2048_S2048x512_0_1024))
            (View.ld x2 (Rect.unit ![0, 1024] ![1, 512] inb_S1x2048_S1x512_0_1024))
            (View.ld acc (Rect.unit ![0, 1024] ![1536, 512] inb_S1536x2048_S1536x512_0_1024)) x0⟩ ::
        ⟨Rect.unit ![0, 512] ![1536, 512] inb_S1536x2048_S1536x512_0_512,
          k0_pay6 (View.ld x1 (Rect.unit ![0, 512] ![2048, 512] inb_S2048x2048_S2048x512_0_512))
            (View.ld x2 (Rect.unit ![0, 512] ![1, 512] inb_S1x2048_S1x512_0_512))
            (View.ld acc (Rect.unit ![0, 512] ![1536, 512] inb_S1536x2048_S1536x512_0_512)) x0⟩ ::
        ⟨Rect.unit ![0, 0] ![1536, 512] inb_S1536x2048_S1536x512_0_0,
          k0_pay5 (View.ld x1 (Rect.unit ![0, 0] ![2048, 512] inb_S2048x2048_S2048x512_0_0))
            (View.ld x2 (Rect.unit ![0, 0] ![1, 512] inb_S1x2048_S1x512_0_0))
            (View.ld acc (Rect.unit ![0, 0] ![1536, 512] inb_S1536x2048_S1536x512_0_0)) x0⟩ :: L)
      = fun y => acc y + stepSum x0 x1 x2 y := by
  funext y
  have hy1 : (y 1).val < 2048 := (y 1).isLt
  refine View.canon_append_of_piecesOf (fun y => acc y + stepSum x0 x1 x2 y) L [_, _, _, _]
    ⟨chunk 1536 _ _ _ x0 x1 x2 acc, chunk 1024 _ _ _ x0 x1 x2 acc, chunk 512 _ _ _ x0 x1 x2 acc, chunk 0 _ _ _ x0 x1 x2 acc, trivial⟩ y ?_
  have mem : ∀ (o : ℕ) (h3 : ∀ a, (![0, o] : Fin 2 → ℕ) a + (![1536, 512] : Fin 2 → ℕ) a ≤ S1536x2048.size a), o ≤ (y 1).val → (y 1).val < o + 512 →
      y ∈ (Rect.unit (s := S1536x2048) ![0, o] ![1536, 512] h3).set := by
    intro o h3 hl hr
    rw [Rect.mem_set_unit]
    intro a
    match a with
    | ⟨0, _⟩ => exact ⟨Nat.zero_le _, (Nat.zero_add 1536).symm ▸ (y 0).isLt⟩
    | ⟨1, _⟩ => exact ⟨hl, hr⟩
  rcases (by omega : 1536 ≤ (y 1).val ∨ (1024 ≤ (y 1).val ∧ (y 1).val < 1024 + 512) ∨ (512 ≤ (y 1).val ∧ (y 1).val < 512 + 512) ∨ (y 1).val < 0 + 512)
    with h | h | h | h
  · exact ⟨_, .head _, mem 1536 inb_S1536x2048_S1536x512_0_1536 h (by omega)⟩
  · exact ⟨_, .tail _ (.head _), mem 1024 inb_S1536x2048_S1536x512_0_1024 h.1 h.2⟩
  · exact ⟨_, .tail _ (.tail _ (.head _)), mem 512 inb_S1536x2048_S1536x512_0_512 h.1 h.2⟩
  · exact ⟨_, .tail _ (.tail _ (.tail _ (.head _))), mem 0 inb_S1536x2048_S1536x512_0_0 (Nat.zero_le _) h⟩

/-- A point that opens a run of blocks leaves the formula alone in the accumulator: it starts from zero. -/
theorem sout_A (c : Dev nD) (i : grid0.Coords) (arg2 : Memref sig .tc .vmem S1536x2048 .bf16) (harg2 : arg2.IsWhole)
    (arg3 : Memref sig .tc .vmem S2048x2048 .i8) (harg3 : arg3.IsWhole) (arg4 : Memref sig .tc .vmem S1x2048 .bf16) (harg4 : arg4.IsWhole)
    (arg5 : Memref sig .tc .vmem S1536x2048 .bf16) (harg5 : arg5.IsWhole) (arg6 : Memref sig .tc .vmem S1536x2048 .f32) (harg6 : arg6.IsWhole)
    (hc0 : cond0_0 i) (hc1 : ¬cond0_1 i)
    (x0 : Vec Ideal S1536x2048 .bf16) (x1 : Vec Ideal S2048x2048 .i8) (x2 : Vec Ideal S1x2048 .bf16) :
    sout0_A_0 c i arg2 harg2 arg3 harg3 arg4 harg4 arg5 harg5 arg6 harg6 hc0 hc1 x0 x1 x2
      = fun y => stepSum x0 x1 x2 y := by
  frame_open
  simp (disch := decide) only [↓ View.readCov_skip, ↓ View.readCov_cons_toLoadRect, ↓ View.readCov_fill]
  frame_out
  refine (four_chunks x0 x1 x2 (k0_pay4 (F := Ideal)) _).trans ?_
  funext y
  rw [zero_apply, zero_add]

/-- A point in the middle of a run leaves the accumulator plus the formula. -/
theorem sout_B (c : Dev nD) (i : grid0.Coords) (arg2 : Memref sig .tc .vmem S1536x2048 .bf16) (harg2 : arg2.IsWhole)
    (arg3 : Memref sig .tc .vmem S2048x2048 .i8) (harg3 : arg3.IsWhole) (arg4 : Memref sig .tc .vmem S1x2048 .bf16) (harg4 : arg4.IsWhole)
    (arg5 : Memref sig .tc .vmem S1536x2048 .bf16) (harg5 : arg5.IsWhole) (arg6 : Memref sig .tc .vmem S1536x2048 .f32) (harg6 : arg6.IsWhole)
    (hc0 : ¬cond0_0 i) (hc1 : ¬cond0_1 i)
    (x0 : Vec Ideal S1536x2048 .bf16) (x1 : Vec Ideal S2048x2048 .i8) (x2 : Vec Ideal S1x2048 .bf16) (acc : Vec Ideal S1536x2048 .f32) :
    sout0_B_0 c i arg2 harg2 arg3 harg3 arg4 harg4 arg5 harg5 arg6 harg6 hc0 hc1 x0 x1 x2 acc
      = fun y => acc y + stepSum x0 x1 x2 y := by
  frame_open
  simp (disch := decide) only [↓ View.readCov_skip, ↓ View.readCov_cons_toLoadRect, ↓ View.readCov_fill]
  frame_out
  exact four_chunks x0 x1 x2 acc []

/-- So does the point that closes a run. -/
theorem sout_C (c : Dev nD) (i : grid0.Coords) (arg2 : Memref sig .tc .vmem S1536x2048 .bf16) (harg2 : arg2.IsWhole)
    (arg3 : Memref sig .tc .vmem S2048x2048 .i8) (harg3 : arg3.IsWhole) (arg4 : Memref sig .tc .vmem S1x2048 .bf16) (harg4 : arg4.IsWhole)
    (arg5 : Memref sig .tc .vmem S1536x2048 .bf16) (harg5 : arg5.IsWhole) (arg6 : Memref sig .tc .vmem S1536x2048 .f32) (harg6 : arg6.IsWhole)
    (hc0 : ¬cond0_0 i) (hc1 : cond0_1 i)
    (x0 : Vec Ideal S1536x2048 .bf16) (x1 : Vec Ideal S2048x2048 .i8) (x2 : Vec Ideal S1x2048 .bf16) (acc : Vec Ideal S1536x2048 .f32) :
    sout0_C_0 c i arg2 harg2 arg3 harg3 arg4 harg4 arg5 harg5 arg6 harg6 hc0 hc1 x0 x1 x2 acc
      = fun y => acc y + stepSum x0 x1 x2 y := by
  frame_open
  simp (disch := decide) only [↓ View.readCov_skip, ↓ View.readCov_cons_toLoadRect, ↓ View.readCov_fill]
  frame_out
  exact four_chunks x0 x1 x2 acc []

/-- The point that closes a run also writes the output block: the finished accumulator. -/
theorem out_C (c : Dev nD) (i : grid0.Coords) (arg2 : Memref sig .tc .vmem S1536x2048 .bf16) (harg2 : arg2.IsWhole)
    (arg3 : Memref sig .tc .vmem S2048x2048 .i8) (harg3 : arg3.IsWhole) (arg4 : Memref sig .tc .vmem S1x2048 .bf16) (harg4 : arg4.IsWhole)
    (arg5 : Memref sig .tc .vmem S1536x2048 .bf16) (harg5 : arg5.IsWhole) (arg6 : Memref sig .tc .vmem S1536x2048 .f32) (harg6 : arg6.IsWhole)
    (hc0 : ¬cond0_0 i) (hc1 : cond0_1 i)
    (x0 : Vec Ideal S1536x2048 .bf16) (x1 : Vec Ideal S2048x2048 .i8) (x2 : Vec Ideal S1x2048 .bf16) (acc : Vec Ideal S1536x2048 .f32) :
    out0_C_3 c i arg2 harg2 arg3 harg3 arg4 harg4 arg5 harg5 arg6 harg6 hc0 hc1 x0 x1 x2 acc
      = fun y => acc y + stepSum x0 x1 x2 y := by
  frame_open
  simp (disch := decide) only [↓ View.readCov_skip, ↓ View.readCov_cons_toLoadRect, ↓ View.readCov_fill]
  frame_out
  rw [cast_eq, View.readCov_eq_canon', four_chunks]
  exact View.ld_unit_lit inb_S1536x2048_S1536x2048_0_0 (fun y => acc y + stepSum x0 x1 x2 y) (by decide)

end Cert.KernelIdeal.Hand

end
-- ==== Proof.Steps.lean ====
module

public import proofs.«01_k».proof.Proof.Block

/-!
What the accumulator holds after each grid point, and where the input blocks of a point lie in the arrays.

The grid has 14 points: point `t` works on output block `t / 7` and on feature block `t % 7`. A run of seven points goes through all the features of
one output block.
-/

@[expose] public section

noncomputable section

namespace Cert.KernelIdeal.Hand

open Idealize.ShloMosaic Idealize.ShloMosaic.TcCoe Idealize Cert.KernelIdeal Cert.KernelIdeal.Gen
open scoped BigOperators

variable (m : (ℓ : Loc nD τ sig) → Buf (Elt Ideal) ℓ)

/-- What point `n` adds to the accumulator: the block formula at the point's own blocks (and nothing at a number that is no point of the grid). -/
def added (c : Dev nD) (n : ℕ) (y : S1536x2048.Idx) : EReal :=
  if h : n < cfg0.N then stepSum (iblk m c 0 ⟨n, h⟩) (iblk m c 1 ⟨n, h⟩) (iblk m c 2 ⟨n, h⟩) y else 0

/-- At a point of the grid, that is the block formula. -/
theorem added_pt (c : Dev nD) (t : Fin cfg0.N) (y : S1536x2048.Idx) :
    added m c t.val y = stepSum (iblk m c 0 t) (iblk m c 1 t) (iblk m c 2 t) y := dif_pos t.isLt

/-- THE ACCUMULATOR after point `n` holds the sum of what the points of its run, up to `n`, added. -/
theorem acc_eq (c : Dev nD) : ∀ (n : ℕ) (h : n < cfg0.N) (y : S1536x2048.Idx),
    (outsAt0 m c n h).2 y = ∑ s ∈ Finset.range (n % 7 + 1), added m c (n - n % 7 + s) y := by
  intro n
  induction n with
  | zero =>
    intro h y
    rw [outsAt0_A m c ⟨0, h⟩ rfl (by show ¬(0 % 7 = 6); decide)]
    dsimp only
    rw [sout_A, Finset.sum_range_one]
    exact (added_pt m c ⟨0, h⟩ y).symm
  | succ n ih =>
    intro h y
    by_cases h0 : (n + 1) % 7 = 0
    · rw [outsAt0_A m c ⟨n + 1, h⟩ h0 (by dsimp only; omega)]
      dsimp only
      rw [sout_A, h0, Finset.sum_range_one]
      exact (added_pt m c ⟨n + 1, h⟩ y).symm
    · have hm : (n + 1) % 7 = n % 7 + 1 := by omega
      have hb : n + 1 - (n % 7 + 1) = n - n % 7 := by omega
      have hl : n - n % 7 + (n % 7 + 1) = n + 1 := by omega
      have step : (outsAt0 m c (n + 1) h).2 y = (outsAt0 m c n (Nat.lt_of_succ_lt h)).2 y + added m c (n + 1) y := by
        by_cases h1 : (n + 1) % 7 = 6
        · rw [outsAt0_C m c ⟨n + 1, h⟩ h0 h1]
          dsimp only
          rw [sout_C]
          exact congrArg _ (added_pt m c ⟨n + 1, h⟩ y).symm
        · rw [outsAt0_B m c ⟨n + 1, h⟩ h0 h1]
          dsimp only
          rw [sout_B]
          exact congrArg _ (added_pt m c ⟨n + 1, h⟩ y).symm
      rw [step, ih, hm, hb, Finset.sum_range_succ _ (n % 7 + 1), hl]

/-- THE OUTPUT BLOCK a closing point writes is the sum over its whole run of seven. -/
theorem out_eq (c : Dev nD) (t : Fin cfg0.N) (ht : t.val % 7 = 6) (y : S1536x2048.Idx) :
    (outsAt0 m c t.val t.isLt).1 y = ∑ s : Fin 7, added m c (7 * (t.val / 7) + s.val) y := by
  have e : (outsAt0 m c t.val t.isLt).1 = (outsAt0 m c t.val t.isLt).2 := by
    rw [outsAt0_C m c t (by omega) ht]
    dsimp only
    rw [out_C, sout_C]
  rw [e, acc_eq, ht, Fin.sum_univ_eq_sum_range (fun s => added m c (7 * (t.val / 7) + s) y)]
  exact Finset.sum_congr rfl fun s _ => by rw [show t.val - 6 + s = 7 * (t.val / 7) + s from by omega]

/-- Which block of each array point `t` works on. -/
theorem index_facts : ∀ t : Fin cfg0.N,
    (win0_0.index t (0 : Fin 2) = 0 ∧ win0_0.index t (1 : Fin 2) = t.val % 7)
    ∧ (win0_1.index t (0 : Fin 2) = t.val % 7 ∧ win0_1.index t (1 : Fin 2) = t.val / 7)
    ∧ (win0_2.index t (0 : Fin 2) = 0 ∧ win0_2.index t (1 : Fin 2) = t.val / 7)
    ∧ (win0_3.index t (0 : Fin 2) = 0 ∧ win0_3.index t (1 : Fin 2) = t.val / 7) :=
  (by decide +kernel : ∀ t : Fin grid0.N, _)

/-- The activations' block of a point, read in the array. -/
theorem x_block (c : Dev nD) (t : Fin cfg0.N) (r : Fin 1536) (k : Fin 2048) (k' : Fin 14336) (hk : k'.val = t.val % 7 * 2048 + k.val) :
    (iblk m c 0 t : Vec Ideal S1536x2048 .bf16) (ix2 r k) = (V m c main_v0 : Vec Ideal S1536x14336 .bf16) (ix2 r k') := by
  obtain ⟨⟨e0, e1⟩, -⟩ := index_facts t
  refine congrArg (V m c main_v0 : Vec Ideal S1536x14336 .bf16) (funext fun a => Fin.ext ?_)
  match a with
  | ⟨0, _⟩ => show win0_0.index t (0 : Fin 2) * 1536 + 1 * r.val = r.val; omega
  | ⟨1, _⟩ => show win0_0.index t (1 : Fin 2) * 2048 + 1 * k.val = k'.val; omega

/-- The codes' block of a point, read in the array. -/
theorem codes_block (c : Dev nD) (t : Fin cfg0.N) (k o : Fin 2048) (k' : Fin 14336) (o' : Fin 4096) (hk : k'.val = t.val % 7 * 2048 + k.val)
    (ho : o'.val = t.val / 7 * 2048 + o.val) :
    (iblk m c 1 t : Vec Ideal S2048x2048 .i8) (ix2 k o) = (V m c main_arg1 : Vec Ideal S14336x4096 .i8) (ix2 k' o') := by
  obtain ⟨-, ⟨e0, e1⟩, -⟩ := index_facts t
  refine congrArg (V m c main_arg1 : Vec Ideal S14336x4096 .i8) (funext fun a => Fin.ext ?_)
  match a with
  | ⟨0, _⟩ => show win0_1.index t (0 : Fin 2) * 2048 + 1 * k.val = k'.val; omega
  | ⟨1, _⟩ => show win0_1.index t (1 : Fin 2) * 2048 + 1 * o.val = o'.val; omega

/-- The scales' block of a point, read in the array. -/
theorem scale_block (c : Dev nD) (t : Fin cfg0.N) (o : Fin 2048) (o' : Fin 4096) (ho : o'.val = t.val / 7 * 2048 + o.val) :
    (iblk m c 2 t : Vec Ideal S1x2048 .bf16) (ix2 0 o) = (V m c main_v2 : Vec Ideal S1x4096 .bf16) (ix2 0 o') := by
  obtain ⟨-, -, ⟨e0, e1⟩, -⟩ := index_facts t
  refine congrArg (V m c main_v2 : Vec Ideal S1x4096 .bf16) (funext fun a => Fin.ext ?_)
  match a with
  | ⟨0, _⟩ => show win0_2.index t (0 : Fin 2) * 1 + 1 * 0 = 0; omega
  | ⟨1, _⟩ => show win0_2.index t (1 : Fin 2) * 2048 + 1 * o.val = o'.val; omega

end Cert.KernelIdeal.Hand

end
-- ==== Proof.Array.lean ====
module

public import proofs.«01_k».proof.Proof.Steps
public import Idealize.ShloMosaic.Lib.Pointwise.Sums

/-!
What the kernel's output array holds after the grid has run, and what the kernel returns once the array is reshaped.
-/

@[expose] public section

set_option maxRecDepth 16384

noncomputable section

namespace Cert.KernelIdeal.Hand

open Idealize.ShloMosaic Idealize.ShloMosaic.TcCoe Idealize Idealize.SL.Sem Cert.KernelIdeal Cert.KernelIdeal.Gen Cert.Hand
open Idealize.ShloMosaic.Pipeline (Dat)
open scoped BigOperators

variable (m : (ℓ : Loc nD τ sig) → Buf (Elt Ideal) ℓ) (ρ : Dev nD → PrngReg)

/-- One feature's term of the product at row `i 0`, column `i 1`. -/
def term (x : Vec Ideal S1536x14336 .bf16) (w : Vec Ideal S14336x4096 .i8) (s : Vec Ideal S1x4096 .bf16) (i : S1536x4096.Idx) (k : Fin 14336) : EReal :=
  x (ix2 (i 0) k) * (code (w (ix2 k (i 1))) * s (ix2 0 (i 1)))

/-- The product of the activations with the scaled codes at row `i 0`, column `i 1`: the sum over all 14336 features. -/
def rowSum (x : Vec Ideal S1536x14336 .bf16) (w : Vec Ideal S14336x4096 .i8) (s : Vec Ideal S1x4096 .bf16) (i : S1536x4096.Idx) : EReal :=
  ∑ k : Fin 14336, term x w s i k

/-- The whole product of the arrays the grid finds, as contents of the output array. -/
def product (c : Dev nD) : Buf (Elt Ideal) ((c : Thread nD τ).loc main_v3) := rowSum (V m c main_v0) (V m c main_arg1) (V m c main_v2)

/-- What point `7 q + s` adds at row `r`, column `o` of its block: the terms of features `2048 s … 2048 s + 2047` of the whole sum at column
    `2048 q + o`. -/
theorem added_eq (c : Dev nD) (q : Fin 2) (s : Fin 7) (y : S1536x2048.Idx) (i : S1536x4096.Idx) (h0 : (i 0).val = (y 0).val)
    (h1 : (i 1).val = q.val * 2048 + (y 1).val) :
    added m c (7 * q.val + s.val) y = ∑ k : Fin 2048,
      term (V m c main_v0) (V m c main_arg1) (V m c main_v2) i ⟨s.val * 2048 + k.val, by omega⟩ := by
  have hn : 7 * q.val + s.val < cfg0.N := lt_of_lt_of_eq (by omega) (show 14 = cfg0.N from N_0.symm)
  have hd : (7 * q.val + s.val) / 7 = q.val := by omega
  have hm : (7 * q.val + s.val) % 7 = s.val := by omega
  refine (added_pt m c ⟨7 * q.val + s.val, hn⟩ y).trans ?_
  unfold stepSum
  refine Finset.sum_congr rfl fun k _ => ?_
  rw [codes_block m c ⟨7 * q.val + s.val, hn⟩ k (y 1) ⟨s.val * 2048 + k.val, by omega⟩ (i 1) (by dsimp only; rw [hm]) (by dsimp only; rw [hd]; exact h1),
    scale_block m c ⟨7 * q.val + s.val, hn⟩ (y 1) (i 1) (by dsimp only; rw [hd]; exact h1),
    x_block m c ⟨7 * q.val + s.val, hn⟩ (y 0) k ⟨s.val * 2048 + k.val, by omega⟩ (by dsimp only; rw [hm])]
  rw [show (y 0 : Fin 1536) = i 0 from Fin.ext h0.symm]
  rfl

/-- WHAT A CLOSING POINT WRITES BACK is its block of the whole product. -/
theorem flushed_eq (c : Dev nD) (t : Fin cfg0.N) (hf : (cfg0.win 3).flush t = true) :
    (dats m 0 c).flushed 3 t = ((cfg0.win 3).blk t).view.read (Elt Ideal) (product m c) := by
  show (cfg0.win 3).cut (grid0.coords t) ((dats m 0 c).after 3 t) = _
  rw [after0_3]
  have ht : t.val % 7 = 6 := (flush0_3 t).mp hf
  have hN : t.val < 14 := lt_of_lt_of_eq t.isLt (show cfg0.N = 14 from N_0)
  obtain ⟨-, -, -, e0, e1⟩ := index_facts t
  funext y
  show (outsAt0 m c t.val t.isLt).1 ((cfg0.win 3).xinj (grid0.coords t) y) = product m c (((cfg0.win 3).blk t).view.emb y)
  have hb0 : (((cfg0.win 3).blk t).view.emb y 0).val = win0_3.index t (0 : Fin 2) * 1536 + 1 * (y 0).val := rfl
  have hb1 : (((cfg0.win 3).blk t).view.emb y 1).val = win0_3.index t (1 : Fin 2) * 2048 + 1 * (y 1).val := rfl
  rw [out_eq m c t ht]
  unfold product rowSum
  rw [Fin.sum_univ_tiles 7 2048 rfl]
  refine Finset.sum_congr rfl fun s _ => ?_
  refine added_eq m c ⟨t.val / 7, by omega⟩ s _ (((cfg0.win 3).blk t).view.emb y) ?_ ?_
  · show (((cfg0.win 3).blk t).view.emb y 0).val = (y 0).val
    rw [hb0]; omega
  · show (((cfg0.win 3).blk t).view.emb y 1).val = t.val / 7 * 2048 + (y 1).val
    rw [hb1]; omega

/-- Every index of the array lies in the block of a closing point. -/
theorem covered (i : S1536x4096.Idx) : ∃ t : Fin cfg0.N, (cfg0.win 3).flush t = true ∧ i ∈ ((cfg0.win 3).blk t).view.set := by
  have hi0 : (i 0).val < 1536 := (i 0).isLt
  have hi1 : (i 1).val < 4096 := (i 1).isLt
  let t : Fin cfg0.N := ⟨7 * ((i 1).val / 2048) + 6, lt_of_lt_of_eq (by omega) (show 14 = cfg0.N from N_0.symm)⟩
  have hm : t.val % 7 = 6 := by show (7 * ((i 1).val / 2048) + 6) % 7 = 6; omega
  have hd : t.val / 7 = (i 1).val / 2048 := by show (7 * ((i 1).val / 2048) + 6) / 7 = _; omega
  obtain ⟨-, -, -, e0, e1⟩ := index_facts t
  refine ⟨t, (flush0_3 t).mpr hm, ?_⟩
  show i ∈ ((View.whole main_v3).slice (win0_3.rect t)).set
  rw [View.set_slice_whole]
  refine Rect.mem_set_unit.mpr ?_
  intro a
  match a with
  | ⟨0, _⟩ => show win0_3.index t (0 : Fin 2) * 1536 ≤ (i 0).val ∧ (i 0).val < win0_3.index t (0 : Fin 2) * 1536 + 1536; omega
  | ⟨1, _⟩ => show win0_3.index t (1 : Fin 2) * 2048 ≤ (i 1).val ∧ (i 1).val < win0_3.index t (1 : Fin 2) * 2048 + 2048; omega

/-- THE ARRAY after the grid has run holds the whole product. -/
theorem final (c : Dev nD) : (dats m 0 c).arrAt 3 cfg0.N = product m c :=
  (dats m 0 c).arrAt_eq_of_cover 3 _ (fun t hf => flushed_eq m c t hf) covered

end Cert.KernelIdeal.Hand

end
-- ==== Proof.Result.lean ====
module

public import proofs.«01_k».proof.Proof.Array

/-!
What the kernel returns: the host reshapes the activations and the scales before the grid and the output array after it.
-/

@[expose] public section

noncomputable section

namespace Cert.KernelIdeal.Hand

open Idealize.ShloMosaic Idealize.ShloMosaic.TcCoe Idealize Idealize.SL.Sem Cert.KernelIdeal Cert.KernelIdeal.Gen Cert.Hand
open Idealize.ShloMosaic.StableHlo
open scoped BigOperators

variable (m : (ℓ : Loc nD τ sig) → Buf (Elt Ideal) ℓ) (ρ : Dev nD → PrngReg)

/-- The grid finds the activations reshaped to one row per batch and position. -/
theorem entry_x (c : Dev nD) : (V m c main_v0 : Vec Ideal S1536x14336 .bf16)
    = shapeCast S1536x14336 (m ((c : Thread nD τ).loc main_arg0) : Vec Ideal S2x768x14336 .bf16) shapeCasts_S2x768x14336_S1536x14336 := by
  show after (List.flatten [hostOps0]) (fun b => m (c, b)) (Proc.devRef .tc main_v0) = _
  simp only [hostOps0, List.flatten_cons, List.flatten_nil, List.append_nil]
  after_results
  rfl

/-- The grid finds the scales rounded and reshaped to one row. -/
theorem entry_scale (c : Dev nD) : (V m c main_v2 : Vec Ideal S1x4096 .bf16)
    = shapeCast S1x4096 (truncf (F := Ideal) .bf16 (m ((c : Thread nD τ).loc main_arg2) : Vec Ideal S4096 .f32) bitsLt_bf16_f32) shapeCasts_S4096_S1x4096 := by
  show after (List.flatten [hostOps0]) (fun b => m (c, b)) (Proc.devRef .tc main_v2) = _
  simp only [hostOps0, List.flatten_cons, List.flatten_nil, List.append_nil]
  after_results
  rfl

/-- The kernel's result is the output array reshaped to batches and positions. -/
theorem exit_y (c : Dev nD) : (Pipeline.afterTail₀ cfgs (dats m) 0 (V0 m) [hostOps1] c main_v4 : Vec Ideal S2x768x4096 .bf16)
    = shapeCast S2x768x4096 (product m c : Vec Ideal S1536x4096 .bf16) shapeCasts_S1536x4096_S2x768x4096 := by
  unfold Pipeline.afterTail₀
  simp only [hostOps1, List.flatten_cons, List.flatten_nil, List.append_nil]
  after_results
  have e := Pipeline.withArrays_arr spec0 (by decide) c (V0 m c) (fun w => (dats m 0 c).arrAt w cfg0.N) 3
  rw [final] at e
  exact congrArg (fun z : Vec Ideal S1536x4096 .bf16 => shapeCast S2x768x4096 z shapeCasts_S1536x4096_S2x768x4096) e

/-- A reshape to one row per batch and position, at an index. -/
theorem rows_apply (x : Vec Ideal S2x768x14336 .bf16) (b : Fin 2) (p : Fin 768) (r : Fin 1536) (k : Fin 14336) (hr : r.val = b.val * 768 + p.val) :
    shapeCast S1536x14336 x shapeCasts_S2x768x14336_S1536x14336 (ix2 r k) = x (ix3 b p k) := by
  pointwise
  rw [show (⟨r.val / 768, by omega⟩ : Fin 2) = b from Fin.ext (by dsimp only; omega),
    show (⟨r.val % 768, by omega⟩ : Fin 768) = p from Fin.ext (by dsimp only; omega)]

/-- A vector reshaped to one row, at an index. -/
theorem row_apply (s : Vec Ideal S4096 .bf16) (o : Fin 4096) : shapeCast S1x4096 s shapeCasts_S4096_S1x4096 (ix2 0 o) = s (ix1 o) := by
  pointwise

/-- Rows reshaped back to batches and positions, at an index. -/
theorem batch_apply (y : Vec Ideal S1536x4096 .bf16) (j : S2x768x4096.Idx) (r : Fin 1536) (hr : r.val = (j 0).val * 768 + (j 1).val) :
    shapeCast S2x768x4096 y shapeCasts_S1536x4096_S2x768x4096 j = y (ix2 r (j 2)) := by
  pointwise
  rw [show (⟨(j 0).val * 768 + (j 1).val, by omega⟩ : Fin 1536) = r from Fin.ext hr.symm]

/-- The product of the reshaped arguments, reshaped back, is the linear layer of the arguments. -/
theorem reshaped_linear (x : Vec Ideal S2x768x14336 .bf16) (w : Vec Ideal S14336x4096 .i8) (s : Vec Ideal S4096 .f32) :
    shapeCast S2x768x4096 (rowSum (shapeCast S1536x14336 x shapeCasts_S2x768x14336_S1536x14336) w
        (shapeCast S1x4096 (truncf (F := Ideal) .bf16 s bitsLt_bf16_f32) shapeCasts_S4096_S1x4096) : Vec Ideal S1536x4096 .bf16)
        shapeCasts_S1536x4096_S2x768x4096 = linear x w s := by
  funext j
  have h0 : (j 0).val < 2 := (j 0).isLt
  have h1 : (j 1).val < 768 := (j 1).isLt
  rw [batch_apply _ j ⟨(j 0).val * 768 + (j 1).val, by omega⟩ rfl]
  unfold rowSum term linear
  refine Finset.sum_congr rfl fun k _ => ?_
  refine congrArg₂ (· * ·) (rows_apply x (j 0) (j 1) _ k rfl) (congrArg (_ * ·) ?_)
  exact row_apply _ (j 2)

/-- The reshaped output array is the linear layer of the arguments. -/
theorem reshaped_eq (c : Dev nD) : shapeCast S2x768x4096 (product m c : Vec Ideal S1536x4096 .bf16) shapeCasts_S1536x4096_S2x768x4096
    = linear (m ((c : Thread nD τ).loc main_arg0)) (m ((c : Thread nD τ).loc main_arg1)) (m ((c : Thread nD τ).loc main_arg2)) := by
  unfold product
  rw [entry_x, entry_scale, V_main_arg1]
  exact reshaped_linear _ _ _

/-- THE KERNEL'S RUN, READ: the result is the linear layer of the arguments, and the arguments are kept. -/
theorem run : θ_run defs (onTc (τ := τ) (main (F := Ideal))) ⟨m, fun _ => 0, ρ⟩ fun r => ∀ c : Dev nD,
      r.2.mem ((c : Thread nD τ).loc main_v4)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v4 (Pipeline.mem_restRefs_of main_v4 (by decide) (by decide))).trans ((exit_y m c).trans (reshaped_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Reference
public import proofs.«01_k».proof.Proof.Result

/-!
The claims: each program runs and keeps its arguments, the kernel's idealization is its own text, and over the exact numbers the kernel and the
reference return the same array. Both are shown equal to one formula, `Cert.Hand.linear`.
-/

@[expose] public section

noncomputable section

namespace Cert.Proof

open Idealize.ShloMosaic Idealize.SL.Sem

/-- From equal arguments the kernel and the reference end with equal results: each is the linear layer of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Hand.linear (m ((c.tc : Thread _ _).loc Cert.KernelIdeal.main_arg0)) (m ((c.tc : Thread _ _).loc Cert.KernelIdeal.main_arg1))
    (m ((c.tc : Thread _ _).loc Cert.KernelIdeal.main_arg2)), Cert.KernelIdeal.Hand.run m g, ?_⟩
  refine (θ_run (Cert.ReferenceIdeal.defs (F := Ideal)) _ _).mono (fun r h c => ?_) (Cert.ReferenceIdeal.Value.run (F := Ideal) m' g')
  obtain ⟨hv, h0, h1, h2⟩ := h c
  refine ⟨hv.trans ?_, h0, h1, h2⟩
  rw [(hargs c).1, (hargs c).2.1, (hargs c).2.2]
  exact Cert.ReferenceIdeal.Hand.result_eq _ _ _

/-- Every claim of the certificate. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, trivial, algebraic⟩

end Cert.Proof

end
